-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ragged [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ragged [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ragged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ragged [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ragged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ragged : Cert.Pre_ragged.Facts),
    quiescent_Kernel (hKernel := hKernel)
    ∧ quiescent_KernelIdeal (hKernelIdeal := hKernelIdeal)
    ∧ quiescent_KernelIdeal_pre_ragged (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal_pre_ragged (hKernelIdeal := hKernelIdeal) (hReferenceIdeal := hReferenceIdeal) (hPre_ragged := hPre_ragged)
-- ==== Pre_ragged.lean ====
abbrev S32768x2048 : Shape := ⟨2, ![32768, 2048]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768x2048 : S_.BroadcastsInDim S32768x2048 (![] : Fin 0 → Fin S32768x2048.rank)
  reducesTo_S32768x2048_S_d0_1 : S32768x2048.ReducesTo [0, 1] S_

variable [Facts]

def fn {F : FTy → Type} [FloatOps F] (main_arg0 : FVec F S32768x2048 .f32) (main_arg1 : IVec S16 32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 32768#32
  let main_v3 : IVec S16 32 := broadcastInDim S16 ![] bcast_S_S16 main_c_1
  let main_v4 : IVec S16 1 := cmpi .sle main_arg1 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S16_S_d0 h_S_) main_arg1 main_c_3
  let main_c_4 : IVec S_ 32 := constantI S_ 32 32768#32
  let main_v8 : IVec S_ 1 := cmpi .sle main_v7 main_c_4
  let main_v9 : IVec S_ 1 := andi main_v6 main_v8
  let main_v10 : FVec F S32768x2048 .f32 := Host.absf main_arg0
  let main_cst : FVec F S_ .f32 := constant S_ .f32 0x7F800000#32
  let main_v11 : FVec F S32768x2048 .f32 := broadcastInDim S32768x2048 ![] bcast_S_S32768x2048 main_cst
  let main_v12 : IVec S32768x2048 1 := cmpf .olt main_v10 main_v11
  let main_c_5 : IVec S_ 1 := constantI S_ 1 1#1
  let main_v13 : IVec S_ 1 := (fun x v => Host.reduce IntOp.andi x v reducesTo_S32768x2048_S_d0_1 h_S_) main_v12 main_c_5
  let main_v14 : IVec S_ 1 := andi main_v9 main_v13
  main_v14
-- ==== Kernel.lean ====
abbrev S32768x2048 : Shape := ⟨2, ![32768, 2048]⟩
abbrev S16 : Shape := ⟨1, ![16]⟩
abbrev S1x16 : Shape := ⟨2, ![1, 16]⟩
abbrev S16x1 : Shape := ⟨2, ![16, 1]⟩
abbrev S16x2048 : Shape := ⟨2, ![16, 2048]⟩
abbrev S2048x2048 : Shape := ⟨2, ![2048, 2048]⟩
abbrev S16x16 : Shape := ⟨2, ![16, 16]⟩
abbrev S2048x1 : Shape := ⟨2, ![2048, 1]⟩
abbrev S2048x16 : Shape := ⟨2, ![2048, 16]⟩

abbrev nBuf : Space → Nat
  | .hbm => 7
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S16, .i32⟩
  | .hbm, ⟨2, _⟩ => ⟨S1x16, .i32⟩
  | .hbm, ⟨3, _⟩ => ⟨S1x16, .f32⟩
  | .hbm, ⟨4, _⟩ => ⟨S16x1, .i32⟩
  | .hbm, ⟨5, _⟩ => ⟨S16x1, .f32⟩
  | .hbm, ⟨6, _⟩ => ⟨S16x2048, .f32⟩
  | .local _ .vmem, ⟨0, _⟩ => ⟨S1x16, .f32⟩
  | .local _ .vmem, ⟨1, _⟩ => ⟨S16x1, .f32⟩
  | .local _ .vmem, ⟨2, _⟩ => ⟨S2048x2048, .f32⟩
  | .local _ .vmem, ⟨3, _⟩ => ⟨S2048x2048, .f32⟩
  | .local _ .vmem, ⟨4, _⟩ => ⟨S16x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_4 : BitVec 32 := 0#32
  let v27 : BitVec 1 := Scalar.cmpi .ne v26 c0_i32_4
  v27

def k0_cond2 (i : grid0.Coords) : BitVec 1 :=
  let arg0 : BitVec 32 := BitVec.ofNat 32 (i 0).val
  let c0_i32_5 : BitVec 32 := 0#32
  let v28 : BitVec 1 := Scalar.cmpi .sgt arg0 c0_i32_5
  let v29 : BitVec 32 := Scalar.extui v28
  let c0_i32_6 : BitVec 32 := 0#32
  let v30 : BitVec 1 := Scalar.cmpi .ne v29 c0_i32_6
  v30

def k0_cond3 (i : grid0.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_7 : BitVec 32 := 0#32
  let v33 : BitVec 1 := Scalar.cmpi .ne v32 c0_i32_7
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32768x2048 : Shape := ⟨2, ![32768, 2048]⟩
abbrev S16 : Shape := ⟨1, ![16]⟩
abbrev S_ : Shape := ⟨0, ![]⟩
abbrev S1 : Shape := ⟨1, ![1]⟩
abbrev S15 : Shape := ⟨1, ![15]⟩
abbrev S16x1 : Shape := ⟨2, ![16, 1]⟩
abbrev S16x2048 : Shape := ⟨2, ![16, 2048]⟩

abbrev nBuf : Space → Nat
  | .hbm => 61
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16, .i32⟩
  | .hbm, ⟨2, _⟩ => ⟨S_, .f32⟩
  | .hbm, ⟨3, _⟩ => ⟨S_, .f32⟩
  | .hbm, ⟨4, _⟩ => ⟨S32768x2048, .f32⟩
  | .hbm, ⟨5, _⟩ => ⟨S_, .i32⟩
  | .hbm, ⟨6, _⟩ => ⟨S1, .i32⟩
  | .hbm, ⟨7, _⟩ => ⟨S15, .i32⟩
  | .hbm, ⟨8, _⟩ => ⟨S_, .i32⟩
  | .hbm, ⟨9, _⟩ => ⟨S_, .i32⟩
  | .hbm, ⟨10, _⟩ => ⟨S15, .i32⟩
  | .hbm, ⟨11, _⟩ => ⟨S16, .i32⟩
  | .hbm, ⟨12, _⟩ => ⟨S_, .i32⟩
  | .hbm, ⟨13, _⟩ => ⟨S_, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S16x2048, .f32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16x1, .i32⟩
  | .hbm, ⟨35, _⟩ => ⟨S16x2048, .f32⟩
  | .hbm, ⟨36, _⟩ => ⟨S16x2048, .f32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S16x1, .i32⟩
  | .hbm, ⟨45, _⟩ => ⟨S16x2048, .f32⟩
  | .hbm, ⟨46, _⟩ => ⟨S16x2048, .f32⟩
  | .hbm, ⟨47, _⟩ => ⟨S16x1, .i32⟩
  | .hbm, ⟨48, _⟩ => ⟨S16x1, .f32⟩
  | .hbm, ⟨49, _⟩ => ⟨S16x2048, .f32⟩
  | .hbm, ⟨50, _⟩ => ⟨S16x2048, .f32⟩
  | .hbm, ⟨51, _⟩ => ⟨S16x2048, .f32⟩
  | .hbm, ⟨52, _⟩ => ⟨S_, .f32⟩
  | .hbm, ⟨53, _⟩ => ⟨S16, .f32⟩
  | .hbm, ⟨54, _⟩ => ⟨S16x1, .f32⟩
  | .hbm, ⟨55, _⟩ => ⟨S16x1, .f32⟩
  | .hbm, ⟨56, _⟩ => ⟨S_, .f32⟩
  | .hbm, ⟨57, _⟩ => ⟨S16x1, .f32⟩
  | .hbm, ⟨58, _⟩ => ⟨S16x1, .f32⟩
  | .hbm, ⟨59, _⟩ => ⟨S16x2048, .f32⟩
  | .hbm, ⟨60, _⟩ => ⟨S16x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_call1_call0_c : Ref sig .tc := ⟨.hbm, 8, rfl⟩
abbrev main_call1_call0_v0 : Ref sig .tc := ⟨.hbm, 9, rfl⟩
abbrev main_v3 : Ref sig .tc := ⟨.hbm, 10, rfl⟩
abbrev main_v4 : Ref sig .tc := ⟨.hbm, 11, rfl⟩
abbrev main_call2_call0_c : Ref sig .tc := ⟨.hbm, 12, rfl⟩
abbrev main_call2_call0_v0 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call3_v0 : Ref sig .tc := ⟨.hbm, 51, rfl⟩
abbrev main_call3_cst : Ref sig .tc := ⟨.hbm, 52, rfl⟩
abbrev main_call3_v1 : Ref sig .tc := ⟨.hbm, 53, rfl⟩
abbrev main_call3_v2 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proof.Points.lean ====
/- What the pooling kernel leaves in its [16, 2048] accumulator, grid point by grid point, and so in its result
   array: the first point stores its block's partial sums, each later one adds its own to what it finds, the last
   divides by the segment lengths and scales each row to length one. Stated at any float instance. -/
module

public import proofs.«01_k».proof.Proof.Gen.KernelIdeal.Value
public import Idealize.ShloMosaic.Lib.Tactic

@[expose] public section

noncomputable section

namespace Cert.Pooling

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The offsets of a load or store of a whole two-axis buffer are zero on both axes. -/
theorem offsets_zero : (![0, 0] : Fin 2 → Nat) = fun _ => 0 := by
  funext a
  match a with
  | ⟨0, _⟩ => rfl
  | ⟨1, _⟩ => rfl

/-- The first grid point leaves its block's partial sums: the product of the row masks with the block. -/
theorem first_point (c : Dev nD) (i : grid0.Coords) (b1 : Memref sig .tc .vmem S1x16 .f32) (w1 : b1.IsWhole)
    (b2 : Memref sig .tc .vmem S16x1 .f32) (w2 : b2.IsWhole) (b3 : Memref sig .tc .vmem S2048x2048 .f32) (w3 : b3.IsWhole)
    (b4 : Memref sig .tc .vmem S16x2048 .f32) (w4 : b4.IsWhole) (p0 : cond0_0 i) (p1 : ¬cond0_1 i) (p2 : ¬cond0_2 i)
    (row : Vec F S1x16 .f32) (col : Vec F S16x1 .f32) (blk : Vec F S2048x2048 .f32) :
    out0_A_3 c i b1 w1 b2 w2 b3 w3 b4 w4 p0 p1 p2 row col blk = k0_pay1 i row blk := by
  unfold out0_A_3
  rw [View.read_writes_eq_canon _ _ _ (cover0_A_3 c i b1 w1 b2 w2 b3 w3 b4 w4 p0 p1 p2 row col blk)]
  unfold kernelRun0_A
  dsimp only
  sl_unfold_words
  rw [View.canon_unit_zero offsets_zero]
  simp only [View.readAt_eq_ld, w1.read_unread, w3.read_unread, View.ld_unit_zero (S := S1x16) offsets_zero,
    View.ld_unit_zero (S := S2048x2048) offsets_zero]

/-- A middle grid point adds its block's partial sums to the accumulator it finds. -/
theorem middle_point (c : Dev nD) (i : grid0.Coords) (b1 : Memref sig .tc .vmem S1x16 .f32) (w1 : b1.IsWhole)
    (b2 : Memref sig .tc .vmem S16x1 .f32) (w2 : b2.IsWhole) (b3 : Memref sig .tc .vmem S2048x2048 .f32) (w3 : b3.IsWhole)
    (b4 : Memref sig .tc .vmem S16x2048 .f32) (w4 : b4.IsWhole) (p0 : ¬cond0_0 i) (p1 : cond0_1 i) (p2 : ¬cond0_2 i)
    (row : Vec F S1x16 .f32) (col : Vec F S16x1 .f32) (blk : Vec F S2048x2048 .f32) (acc : Vec F S16x2048 .f32) :
    out0_B_3 c i b1 w1 b2 w2 b3 w3 b4 w4 p0 p1 p2 row col blk acc = k0_pay2 i row blk acc := by
  unfold out0_B_3
  rw [View.read_writes_eq_canon _ _ _ (cover0_B_3 c i b1 w1 b2 w2 b3 w3 b4 w4 p0 p1 p2 row col blk acc)]
  unfold kernelRun0_B
  dsimp only
  sl_unfold_words
  rw [View.canon_unit_zero offsets_zero]
  simp only [View.readAt_eq_ld, w1.read_unread, w3.read_unread, w4.read_unread, View.ld_unit_zero (S := S1x16) offsets_zero,
    View.ld_unit_zero (S := S2048x2048) offsets_zero, View.ld_unit_zero (S := S16x2048) offsets_zero]

/-- The last grid point adds its block's partial sums too, then replaces the accumulator by its scaled rows. -/
theorem last_point (c : Dev nD) (i : grid0.Coords) (b1 : Memref sig .tc .vmem S1x16 .f32) (w1 : b1.IsWhole)
    (b2 : Memref sig .tc .vmem S16x1 .f32) (w2 : b2.IsWhole) (b3 : Memref sig .tc .vmem S2048x2048 .f32) (w3 : b3.IsWhole)
    (b4 : Memref sig .tc .vmem S16x2048 .f32) (w4 : b4.IsWhole) (p0 : ¬cond0_0 i) (p1 : cond0_1 i) (p2 : cond0_2 i)
    (row : Vec F S1x16 .f32) (col : Vec F S16x1 .f32) (blk : Vec F S2048x2048 .f32) (acc : Vec F S16x2048 .f32) :
    out0_C_3 c i b1 w1 b2 w2 b3 w3 b4 w4 p0 p1 p2 row col blk acc = k0_pay3 (k0_pay2 i row blk acc) col := by
  unfold out0_C_3
  rw [View.read_writes_eq_canon _ _ _ (cover0_C_3 c i b1 w1 b2 w2 b3 w3 b4 w4 p0 p1 p2 row col blk acc)]
  unfold kernelRun0_C
  dsimp only
  sl_unfold_words
  rw [View.canon_cons_unit_zero (S := S16x2048) offsets_zero, View.readCov_unit_zero (S := S16x2048) _ offsets_zero]
  simp only [View.readAt_eq_ld, w1.read_unread, w2.read_unread, w3.read_unread, w4.read_unread, View.ld_unit_zero (S := S1x16) offsets_zero,
    View.ld_unit_zero (S := S16x1) offsets_zero, View.ld_unit_zero (S := S2048x2048) offsets_zero, View.ld_unit_zero (S := S16x2048) offsets_zero]

/-- The accumulator after grid point `n`, before any division: the partial sums of blocks `0` to `n`, added in order. -/
def running (c : Dev nD) : (n : ℕ) → n < cfg0.N → Vec F S16x2048 .f32
  | 0, h => k0_pay1 (grid0.coords ⟨0, h⟩) (iblk m c 0 ⟨0, h⟩) (iblk m c 2 ⟨0, h⟩)
  | n + 1, h => k0_pay2 (grid0.coords ⟨n + 1, h⟩) (iblk m c 0 ⟨n + 1, h⟩) (iblk m c 2 ⟨n + 1, h⟩)
      (running c n (Nat.lt_of_succ_lt h))

/-- Up to the last grid point but one the accumulator's buffer holds the running sums. -/
theorem buffer_running (c : Dev nD) : ∀ (n : ℕ) (h : n < cfg0.N), n < 15 → outsAt0 m c n h = running m c n h
  | 0, h, _ => (outsAt0_A m c ⟨0, h⟩ rfl (by dsimp only; omega) (by dsimp only; omega)).trans (first_point ..)
  | n + 1, h, hn => by
    refine (outsAt0_B m c ⟨n + 1, h⟩ (by dsimp only; omega) (by dsimp only; omega) (by dsimp only; omega)).trans ((middle_point ..).trans ?_)
    show k0_pay2 _ _ _ (outsAt0 m c n _) = k0_pay2 _ _ _ (running m c n _)
    rw [buffer_running c n _ (by omega)]

theorem fourteen_lt : 14 < cfg0.N := lt_of_lt_of_eq (by decide) N_0.symm

theorem fifteen_lt : 15 < cfg0.N := lt_of_lt_of_eq (by decide) N_0.symm

/-- The kernel's result: the running sums over all sixteen blocks, divided by the lengths and scaled. -/
def result (c : Dev nD) : Buf (Elt F) ((c : Thread nD τ).loc main_v4) :=
  k0_pay3 (running m c 15 fifteen_lt) (iblk m c 1 ⟨15, fifteen_lt⟩)

/-- At the last grid point the accumulator's buffer holds the result. -/
theorem buffer_last (c : Dev nD) : outsAt0 m c 15 fifteen_lt = result m c := by
  refine (outsAt0_C m c ⟨15, fifteen_lt⟩ (by dsimp only; omega) (by dsimp only; omega) (by dsimp only)).trans ((last_point ..).trans ?_)
  show k0_pay3 (k0_pay2 _ _ _ (outsAt0 m c 14 _)) _ = k0_pay3 (running m c 15 _) _
  rw [buffer_running m c 14 _ (by omega)]
  rfl

/-- The one write-back, at the last grid point, writes the result: its block is the whole array. -/
theorem written_back (c : Dev nD) (t : Fin cfg0.N) (hf : (cfg0.win 3).flush t = true) :
    (dats m 0 c).flushed 3 t = ((cfg0.win 3).blk t).view.read (Elt F) (result m c) := by
  have hlast : t.val = 15 := by
    have h1 := (flush0_3 t).mp hf
    have h2 : t.val < 16 := lt_of_lt_of_eq t.isLt N_0
    omega
  obtain rfl : t = t0_15 := Fin.ext hlast
  show (cfg0.win 3).cut (grid0.coords t0_15) ((dats m 0 c).after 3 t0_15) = _
  rw [after0_3, show outsAt0 m c t0_15.val t0_15.isLt = result m c from buffer_last m c]
  have hz : (fun a => win0_3.index t0_15 a * main_v4.ty.shape.size a) = fun _ => 0 :=
    funext fun a => by fin_cases a <;> decide +kernel
  exact (Memref.read_access_unit_zero (Elt F) main_v4 hz (fun a => by rw [congrFun hz a]; simp) (result m c)).symm

/-- The result array ends holding the result. -/
theorem array_result (c : Dev nD) : (dats m 0 c).arrAt 3 cfg0.N = result m c := by
  refine (dats m 0 c).arrAt_eq_of_cover 3 (result m c) (written_back m c) fun i => ⟨t0_15, (flush0_3 t0_15).mpr rfl, ?_⟩
  show i ∈ ((View.whole main_v4).slice (win0_3.rect t0_15)).set
  rw [View.set_slice_whole, Rect.mem_set_unit]
  intro a
  have h0 : (i 0 : Nat) < 16 := (i 0).isLt
  have h1 : (i 1 : Nat) < 2048 := (i 1).isLt
  match a with
  | ⟨0, _⟩ =>
    show win0_3.index t0_15 0 * win0_3.size 0 ≤ (i 0 : Nat) ∧ (i 0 : Nat) < win0_3.index t0_15 0 * win0_3.size 0 + win0_3.xsize (grid0.coords t0_15) 0
    rw [show win0_3.index t0_15 0 * win0_3.size 0 = 0 from by decide +kernel, show win0_3.xsize (grid0.coords t0_15) 0 = 16 from by decide +kernel]
    omega
  | ⟨1, _⟩ =>
    show win0_3.index t0_15 1 * win0_3.size 1 ≤ (i 1 : Nat) ∧ (i 1 : Nat) < win0_3.index t0_15 1 * win0_3.size 1 + win0_3.xsize (grid0.coords t0_15) 1
    rw [show win0_3.index t0_15 1 * win0_3.size 1 = 0 from by decide +kernel, show win0_3.xsize (grid0.coords t0_15) 1 = 2048 from by decide +kernel]
    omega

end Cert.Pooling

end
-- ==== Proof.Sums.lean ====
/- Sums of extended reals over an initial stretch of the naturals: the running sums a window as tall as the array
   takes down a column, and a stretch's sum as a difference of two running sums. No program appears here. -/
module

public import Idealize.ShloMosaic.Lib.Routing.OpsOne
public import Idealize.ShloMosaic.Lib.Pointwise

@[expose] public section

noncomputable section

namespace Cert.Pooling

open Idealize.ShloMosaic

/-- Adding terms one after another to a start value adds the sum of their values to it. -/
theorem foldl_add_eq {ι : Type} (l : List ι) (g f : ι → EReal) (hg : ∀ a ∈ l, g a = f a) (z : EReal) :
    l.foldl (fun r a => r + g a) z = z + (l.map f).sum := by
  induction l generalizing z with
  | nil => simp
  | cons a l ih =>
    rw [List.foldl_cons, ih (fun b hb => hg b (List.mem_cons_of_mem _ hb)), hg a List.mem_cons_self, List.map_cons,
      List.sum_cons, add_assoc]

/-- The sum of a list of the values at `0 … n - 1` is the sum over the first `n` naturals. -/
theorem list_range_sum {M : Type} [AddCommMonoid M] (f : Nat → M) (n : Nat) :
    ((List.range n).map f).sum = ∑ i ∈ Finset.range n, f i := by
  induction n with
  | zero => rfl
  | succ n ih =>
    rw [List.range_succ, List.map_append, List.sum_append, ih, Finset.sum_range_succ]
    simp

/-- Of the `top + 1` positions of a window that ends at `j`, the first `top - j` lie above the column and add
    nothing; the rest are the column's entries `0 … j`. -/
theorem window_sum (f : Nat → EReal) (top j : Nat) (hj : j ≤ top) :
    (∑ w ∈ Finset.range (top + 1), if top ≤ j + w then f (j + w - top) else 0) = ∑ i ∈ Finset.range (j + 1), f i := by
  obtain ⟨d, rfl⟩ : ∃ d, top = j + d := ⟨top - j, by omega⟩
  rw [show j + d + 1 = d + (j + 1) by omega, Finset.sum_range_add,
    Finset.sum_eq_zero fun w hw => if_neg (by have := Finset.mem_range.1 hw; omega), zero_add]
  refine Finset.sum_congr rfl fun i _ => ?_
  rw [if_pos (by omega)]
  exact congrArg f (by omega)

/-- The float running sum down the rows of a matrix, at exact arithmetic: row `j` of a column holds the sum of the
    column's entries `0 … j`. -/
theorem running_sums {R top C : Nat} (hR : top + 1 = R) (x : FVec Ideal (Routing.shape2 R C) .f32)
    (init : FVec Ideal Routing.shape0 .f32) (hinit : init ix0 = (0 : EReal))
    (h : (Routing.shape2 R C).ReduceWindows (![R, 1] : Fin 2 → Nat) ![1, 1] ![top, 0] ![0, 0] (Routing.shape2 R C))
    (hu : 0 < Routing.shape0.numel) (j : Fin R) (c : Fin C) (f : Nat → EReal) (hx : ∀ i : Fin R, x (ix2 i c) = f i.val) :
    Host.reduceWindowAdd ![R, 1] ![1, 1] ![top, 0] ![0, 0] x init h hu (ix2 j c)
      = ∑ i ∈ Finset.range (j.val + 1), f i := by
  subst hR
  have hv : init (Shape.Idx.first hu) = (0 : EReal) := (congrArg init (ValueIdx.eq_ix0 _)).trans hinit
  have hj := j.isLt
  have hc := c.isLt
  unfold Host.reduceWindowAdd
  rw [Ideal.hostReduceWindowAdd_def, hv]
  unfold Ideal.hostReduceWindowAdd Host.reduceWindow
  dsimp only
  refine (foldl_add_eq _ _ (fun n => if top ≤ j.val + n.val then f (j.val + n.val - top) else 0) (fun n _ => ?_) 0).trans ?_
  · have hw0 : ((Routing.shape2 (top + 1) 1).rowMajor.symm n 0).val = n.val := by rw [Routing.symm_col]; rfl
    have hw1 : ((Routing.shape2 (top + 1) 1).rowMajor.symm n 1).val = 0 := by rw [Routing.symm_col]; rfl
    have hn : n.val < top + 1 := (n.cast (Routing.numel_col _)).isLt
    split
    · next hin =>
      have h0 := (hin 0).1
      change top ≤ j.val * 1 + ((Routing.shape2 (top + 1) 1).rowMajor.symm n 0).val at h0
      rw [hw0] at h0
      rw [if_pos (by omega), ← hx ⟨j.val + n.val - top, by omega⟩]
      refine congrArg x (funext fun a => Fin.ext ?_)
      match a with
      | ⟨0, _⟩ =>
        show j.val * 1 + ((Routing.shape2 (top + 1) 1).rowMajor.symm n 0).val - top = j.val + n.val - top
        rw [hw0, Nat.mul_one]
      | ⟨1, _⟩ =>
        show c.val * 1 + ((Routing.shape2 (top + 1) 1).rowMajor.symm n 1).val - 0 = c.val
        rw [hw1]
        omega
    · next hin =>
      rw [if_neg fun hle => hin fun a => by
        match a with
        | ⟨0, _⟩ =>
          show top ≤ j.val * 1 + ((Routing.shape2 (top + 1) 1).rowMajor.symm n 0).val
            ∧ j.val * 1 + ((Routing.shape2 (top + 1) 1).rowMajor.symm n 0).val - top < top + 1
          rw [hw0]
          omega
        | ⟨1, _⟩ =>
          show 0 ≤ c.val * 1 + ((Routing.shape2 (top + 1) 1).rowMajor.symm n 1).val
            ∧ c.val * 1 + ((Routing.shape2 (top + 1) 1).rowMajor.symm n 1).val - 0 < C
          rw [hw1]
          omega]
  rw [zero_add, Routing.map_finRange_val _ (fun w => if top ≤ j.val + w then f (j.val + w - top) else 0), list_range_sum]
  exact (congrArg (fun M => ∑ w ∈ Finset.range M, if top ≤ j.val + w then f (j.val + w - top) else 0)
    (Routing.numel_col (top + 1))).trans (window_sum f top j.val (by omega))

/-- The sum of finitely many reals, taken among the extended reals, is their real sum. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The sum of the reals at `start ≤ t < stop` is the running sum at the last of them, less the running sum at the
    first of them, plus the first. -/
theorem stretch_sum (f : Nat → ℝ) (start stop total : Nat) (h₁ : start < stop) (h₂ : stop ≤ total) :
    (∑ t ∈ Finset.range total, if start ≤ t ∧ t < stop then (f t : EReal) else 0)
      = ((∑ t ∈ Finset.range (stop - 1 + 1), (f t : EReal)) - ∑ t ∈ Finset.range (start + 1), (f t : EReal)) + (f start : EReal) := by
  have e : (∑ t ∈ Finset.range total, if start ≤ t ∧ t < stop then (f t : EReal) else 0)
      = ∑ t ∈ Finset.Ico start stop, (f t : EReal) := by
    rw [← Finset.sum_filter]
    refine Finset.sum_congr (Finset.ext fun t => ?_) fun _ _ => rfl
    simp only [Finset.mem_filter, Finset.mem_range, Finset.mem_Ico]
    omega
  rw [e, Nat.sub_add_cancel (by omega : 1 ≤ stop), ← coe_sum, ← coe_sum, ← coe_sum, ← EReal.coe_sub, ← EReal.coe_add,
    Finset.sum_Ico_eq_sub _ (le_of_lt h₁), Finset.sum_range_succ]
  congr 1
  ring

end Cert.Pooling

end
-- ==== Proof.Lengths.lean ====
/- What the precondition says of the two arguments: the sixteen lengths are natural numbers that add up to no more
   than the number of tokens, and every token entry is a real number. Also the words in which both
   programs' results are stated: a token's feature, a prompt's mean, a mean scaled to length one. -/
module

public import proofs.«01_k».proof.Proof.Sums
public import proofs.«01_k».proof.Proof.Gen.Pre_ragged
public import Idealize.ShloMosaic.Lib.ReduceAll

@[expose] public section

noncomputable section

namespace Cert.Pooling

open Idealize.ShloMosaic

/-- The length of prompt `n` as a natural number, zero past the sixteenth. -/
def len (lens : IVec (Routing.shape1 16) 32) (n : Nat) : Nat := if h : n < 16 then (lens (ix1 ⟨n, h⟩)).toNat else 0

/-- The token at which prompt `n` starts: the sum of the lengths before it. It is also where prompt `n - 1` stops. -/
def start (lens : IVec (Routing.shape1 16) 32) (n : Nat) : Nat := ∑ i ∈ Finset.range n, len lens i

/-- The facts about the arguments that the proof uses. -/
structure Ragged (x : FVec Ideal (Routing.shape2 32768 2048) .f32) (lens : IVec (Routing.shape1 16) 32) : Prop where
  /-- the prompts fit into the tokens -/
  total : start lens 16 ≤ 32768
  /-- every entry of the tokens is a real number -/
  real : ∀ i, ∃ r : ℝ, x i = (r : EReal)

/-- Feature `d` of token `n`, zero past the last token. -/
def tok (x : FVec Ideal (Routing.shape2 32768 2048) .f32) (d : Fin 2048) (n : Nat) : EReal :=
  if h : n < 32768 then x (ix2 ⟨n, h⟩ d) else 0

/-- A prompt's mean: its sum divided by its length. -/
def mean (total : Fin 16 → Fin 2048 → EReal) (lens : IVec (Routing.shape1 16) 32) (b : Fin 16) (d : Fin 2048) : EReal :=
  Ideal.div (total b d) ((lens (ix1 b)).toInt : ℝ)

/-- A prompt's mean divided by its Euclidean norm, the norm replaced by a small constant where it lies below it. -/
def scaled (total : Fin 16 → Fin 2048 → EReal) (lens : IVec (Routing.shape1 16) 32) (b : Fin 16) (d : Fin 2048) : EReal :=
  Ideal.div (mean total lens b d)
    (max (Ideal.sqrt (∑ e : Fin 2048, mean total lens b e * mean total lens b e)) (Ideal.ofBits .f32 0x2B8CBCCC#32))

/-- A prompt's row depends on that prompt's sums alone. -/
theorem scaled_congr (s t : Fin 16 → Fin 2048 → EReal) (lens : IVec (Routing.shape1 16) 32) (b : Fin 16) (h : ∀ d, s b d = t b d)
    (d : Fin 2048) : scaled s lens b d = scaled t lens b d := by
  unfold scaled mean
  simp only [h]

/-- A prompt without tokens has a zero row whatever its sums: each mean, a quotient by zero, is infinite, so the norm is,
    and a quotient by infinity is zero. -/
theorem scaled_of_empty (s : Fin 16 → Fin 2048 → EReal) (lens : IVec (Routing.shape1 16) 32) (b : Fin 16)
    (h : (lens (ix1 b)).toInt = 0) (d : Fin 2048) : scaled s lens b d = 0 := by
  have square : ∀ e, mean s lens b e * mean s lens b e = ⊤ := fun e => by
    unfold mean Ideal.div
    rw [h, Int.cast_zero, EReal.coe_zero, if_pos rfl]
    split <;> simp
  have norm : (∑ e : Fin 2048, mean s lens b e * mean s lens b e) = ⊤ := by
    rw [Finset.sum_congr rfl fun e _ => square e, Fin.sum_univ_succ]
    exact EReal.top_add_of_ne_bot (Finset.sum_induction _ (· ≠ ⊥) (fun a b ha hb => EReal.add_ne_bot_iff.2 ⟨ha, hb⟩)
      EReal.zero_ne_bot fun _ _ => bot_lt_top.ne')
  unfold scaled
  rw [norm, show Ideal.sqrt ⊤ = ⊤ from rfl, max_eq_left le_top]
  unfold Ideal.div
  rw [if_neg EReal.top_ne_zero, EReal.inv_top, mul_zero]

/-- A length word is the word of its natural number. -/
theorem word_len (lens : IVec (Routing.shape1 16) 32) (b : Fin 16) : lens (ix1 b) = BitVec.ofNat 32 (len lens b.val) := by
  unfold len
  rw [dif_pos b.isLt, BitVec.ofNat_toNat, BitVec.setWidth_eq]

/-- The starts never decrease. -/
theorem start_mono (lens : IVec (Routing.shape1 16) 32) {a b : Nat} (h : a ≤ b) : start lens a ≤ start lens b :=
  Finset.sum_le_sum_of_subset (Finset.range_mono h)

/-- A prompt stops its length after its start. -/
theorem start_succ (lens : IVec (Routing.shape1 16) 32) (n : Nat) : start lens (n + 1) = start lens n + len lens n :=
  Finset.sum_range_succ _ _

/-- A length below 2³¹ is the same read signed. -/
theorem toInt_len {x : FVec Ideal (Routing.shape2 32768 2048) .f32} {lens : IVec (Routing.shape1 16) 32} (h : Ragged x lens)
    (b : Fin 16) : (lens (ix1 b)).toInt = (len lens b.val : Int) := by
  have hb := b.isLt
  have h₁ := start_mono lens (show b.val + 1 ≤ 16 by omega)
  have h₂ := start_succ lens b.val
  have h₃ := h.total
  rw [word_len lens b, StableHlo.Predicate.toInt_ofNat_small _ (by omega)]

/-- Where a word is at least zero and at most 32768, read signed, its natural number is at most 32768. -/
theorem word_range (w : BitVec 32) (h₁ : IntOp.cmpi .sge w 0#32 = 1#1) (h₂ : IntOp.cmpi .sle w 32768#32 = 1#1) :
    w.toNat ≤ 32768 := by
  simp only [IntOp.cmpi, StableHlo.Predicate.ofBool_eq_one_iff, BitVec.sle, decide_eq_true_eq, BitVec.toInt_eq_toNat_cond,
    BitVec.toNat_ofNat] at h₁ h₂
  have := w.isLt
  split at h₁ <;> split at h₂ <;> omega

/-- An extended real whose absolute value lies below the top is a real number. -/
theorem real_of_abs_lt (v : EReal) (h : max v (-v) < ⊤) : ∃ r : ℝ, v = (r : EReal) := by
  induction v with
  | bot => simp at h
  | coe r => exact ⟨r, rfl⟩
  | top => simp at h

/-- The precondition gives the facts. -/
theorem ragged_of_pre (x : FVec Ideal (Routing.shape2 32768 2048) .f32) (lens : IVec (Routing.shape1 16) 32) [Pre_ragged.Facts]
    (h : Pre_ragged.fn x lens = fun _ => 1#1) : Ragged x lens := by
  have h0 := congrFun h ix0
  unfold Pre_ragged.fn at h0
  dsimp only at h0
  obtain ⟨h9, hfin⟩ := IntOp.andi_eq_one.1 h0
  obtain ⟨h6, hsum⟩ := IntOp.andi_eq_one.1 h9
  obtain ⟨hge, hle⟩ := IntOp.andi_eq_one.1 h6
  have sub : Subsingleton Pre_ragged.S_.Idx := ⟨fun a b => funext fun i => i.elim0⟩
  have range : ∀ b : Fin 16, len lens b.val ≤ 32768 := fun b => by
    have a₁ := Host.reduce_andi_all _ _ _ _ _ hge (ix1 b)
    have a₂ := Host.reduce_andi_all _ _ _ _ _ hle (ix1 b)
    have := word_range (lens (ix1 b)) a₁ a₂
    unfold len
    rwa [dif_pos b.isLt]
  have bound : start lens 16 ≤ 16 * 32768 := by
    refine (Finset.sum_le_card_nsmul _ _ 32768 fun i hi => range ⟨i, Finset.mem_range.1 hi⟩).trans ?_
    simp
  have words : Host.reduce IntOp.addi lens (constantI Routing.shape0 32 0#32) Pre_ragged.Facts.reducesTo_S16_S_d0
      Pre_ragged.Facts.h_S_ ix0 = BitVec.ofNat 32 (start lens 16) := by
    rw [ix0_eq_valueIdx, Routing.reduce_sum lens (len lens) (fun i => by rw [← ix1_eq_valueIdx]; exact word_len lens i), list_range_sum]
    rfl
  refine ⟨?_, fun i => ?_⟩
  · have a : IntOp.cmpi .sle (BitVec.ofNat 32 (start lens 16)) 32768#32 = 1#1 := by rw [← words]; exact hsum
    rw [StableHlo.Predicate.sle_iff_toNat (by rw [BitVec.toNat_ofNat]; omega) (by decide), BitVec.toNat_ofNat] at a
    simp at a
    omega
  · have a := Host.reduce_andi_all _ _ _ _ _ hfin i
    refine real_of_abs_lt _ ?_
    have top : Ideal.ofBits .f32 0x7F800000#32 = ⊤ := by simp [Ideal.ofBits, Ideal.ieee]
    have b : Ideal.cmp .olt (max (x i : EReal) (-(x i : EReal))) (Ideal.ofBits .f32 0x7F800000#32) = 1#1 := a
    rw [top] at b
    simpa [Ideal.cmp, StableHlo.Predicate.ofBool_eq_one_iff] using b

end Cert.Pooling

end
-- ==== Proof.Block.lean ====
/- What one grid point of the kernel adds to an entry of its accumulator, at exact arithmetic: the sum of the block's
   rows whose token numbers lie between the prompt's start and its stop. -/
module

public import proofs.«01_k».proof.Proof.Points
public import proofs.«01_k».proof.Proof.Lengths

@[expose] public section

noncomputable section

namespace Cert.Pooling

open Cert.KernelIdeal Cert.KernelIdeal.Gen Idealize.ShloMosaic

/-- Comparing two row numbers below sixteen as words compares them as numbers. -/
theorem cmpi_sle_ofNat : ∀ k b : Fin 16,
    IntOp.cmpi .sle (BitVec.ofNat 32 k.val) (BitVec.ofNat 32 b.val) = BitVec.ofBool (decide (k.val ≤ b.val)) := by
  decide

/-- A truth value widened to a word and turned into a float is one or zero. -/
theorem indicator (p : Bool) :
    (FloatOps.sitofp (F := Ideal) .f32 (BitVec.setWidth 32 (BitVec.ofBool p)) : EReal) = if p then (1 : EReal) else 0 := by
  cases p
  · show (((BitVec.setWidth 32 (BitVec.ofBool false)).toInt : ℝ) : EReal) = 0
    simp
  · show (((BitVec.setWidth 32 (BitVec.ofBool true)).toInt : ℝ) : EReal) = 1
    rw [show (BitVec.setWidth 32 (BitVec.ofBool true)).toInt = 1 by decide]
    simp

/-- The bitwise and of two truth values is the truth value of both. -/
theorem andi_ofBool (p q : Bool) : IntOp.andi (BitVec.ofBool p) (BitVec.ofBool q) = BitVec.ofBool (p && q) := by
  cases p <;> cases q <;> decide

/-- Row `r` of block `i` is token `2048 i + r`, also as a word and as a float. -/
theorem token_word (i : Fin 16) (r : Fin 2048) :
    (FloatOps.sitofp (F := Ideal) .f32 (IntOp.addi (Scalar.muli (BitVec.ofNat 32 i.val) 2048#32) (BitVec.ofNat 32 r.val)) : EReal)
      = ((2048 * i.val + r.val : Nat) : ℝ) := by
  have e : IntOp.addi (Scalar.muli (BitVec.ofNat 32 i.val) 2048#32) (BitVec.ofNat 32 r.val) = BitVec.ofNat 32 (2048 * i.val + r.val) := by
    rw [BitVec.ofNat_add, Nat.mul_comm, BitVec.ofNat_mul]
    rfl
  show (((IntOp.addi (Scalar.muli (BitVec.ofNat 32 i.val) 2048#32) (BitVec.ofNat 32 r.val)).toInt : ℝ) : EReal) = _
  have := i.isLt
  have := r.isLt
  rw [e, StableHlo.Predicate.toInt_ofNat_small _ (by omega)]
  simp

/-- The product of the lengths with the triangle of ones is the stop: the sum of the lengths up to and including the
    prompt's own. -/
theorem stop_sum (lens : IVec (Routing.shape1 16) 32) (b : Fin 16) :
    (∑ k : Fin 16, ((len lens k.val : ℝ) : EReal) * (if decide (k.val ≤ b.val) then (1 : EReal) else 0))
      = ((start lens (b.val + 1) : Nat) : ℝ) := by
  have hb := b.isLt
  rw [Fin.sum_univ_eq_sum_range (fun k => ((len lens k : ℝ) : EReal) * (if decide (k ≤ b.val) then (1 : EReal) else 0)) 16]
  have e : ∀ k, ((len lens k : ℝ) : EReal) * (if decide (k ≤ b.val) then (1 : EReal) else 0)
      = if k < b.val + 1 then ((len lens k : ℝ) : EReal) else 0 := fun k => by
    by_cases h : k ≤ b.val
    · rw [if_pos (decide_eq_true h), if_pos (by omega), mul_one]
    · rw [if_neg (by simpa using h), if_neg (by omega), mul_zero]
  rw [Finset.sum_congr rfl fun k _ => e k, ← Finset.sum_filter]
  have f : (Finset.range 16).filter (· < b.val + 1) = Finset.range (b.val + 1) := by
    ext k
    simp only [Finset.mem_filter, Finset.mem_range]
    omega
  rw [f, ← coe_sum]
  unfold start
  push_cast
  rfl

/-- What one grid point adds: for prompt `b` and feature `d`, the sum of the block's rows between the prompt's start
    and its stop. The row of lengths holds the lengths as floats. -/
theorem block_sum (lens : IVec (Routing.shape1 16) 32) (i : grid0.Coords) (row : Vec Ideal S1x16 .f32)
    (hrow : ∀ k : Fin 16, row (ix2 0 k) = ((len lens k.val : ℝ) : EReal)) (blk : Vec Ideal S2048x2048 .f32) (b : Fin 16) (d : Fin 2048) :
    (k0_pay1 i row blk (ix2 b d) : EReal)
      = ∑ r : Fin 2048, if start lens b.val ≤ 2048 * (i 0).val + r.val ∧ 2048 * (i 0).val + r.val < start lens (b.val + 1)
          then (blk (ix2 r d) : EReal) else 0 := by
  pointwise [k0_pay1]
  have less : ((start lens (b.val + 1) : Nat) : ℝ) - (len lens b.val : ℝ) = (start lens b.val : Nat) := by
    rw [start_succ]; push_cast; ring
  simp only [cmpi_sle_ofNat, indicator, hrow]
  rw [stop_sum, ← EReal.coe_sub, less]
  refine Finset.sum_congr rfl fun r _ => ?_
  rw [token_word (i 0) r, andi_ofBool, indicator]
  have cast_le : ∀ a b : Nat, (((a : ℝ) : EReal) ≤ ((b : ℝ) : EReal)) ↔ a ≤ b := fun a b => by
    rw [EReal.coe_le_coe_iff, Nat.cast_le]
  have cast_lt : ∀ a b : Nat, (((a : ℝ) : EReal) < ((b : ℝ) : EReal)) ↔ a < b := fun a b => by
    rw [EReal.coe_lt_coe_iff, Nat.cast_lt]
  by_cases h : start lens b.val ≤ 2048 * (i 0).val + r.val ∧ 2048 * (i 0).val + r.val < start lens (b.val + 1)
  · rw [if_pos (Bool.and_eq_true_iff.2 ⟨decide_eq_true ((cast_le _ _).2 h.1), decide_eq_true ((cast_lt _ _).2 h.2)⟩),
      if_pos h, one_mul]
  · rw [if_neg fun q => h ⟨(cast_le _ _).1 (of_decide_eq_true (Bool.and_eq_true_iff.1 q).1),
      (cast_lt _ _).1 (of_decide_eq_true (Bool.and_eq_true_iff.1 q).2)⟩, if_neg h, zero_mul]

end Cert.Pooling

end
-- ==== Proof.Windows.lean ====
/- What the kernel's three input windows read: the lengths as floats, as a row and as a column, and a block of 2048
   consecutive tokens. -/
module

public import proofs.«01_k».proof.Proof.Block

@[expose] public section

noncomputable section

namespace Cert.Pooling

open Cert.KernelIdeal Cert.KernelIdeal.Gen Idealize.ShloMosaic Idealize.ShloMosaic.TcCoe Idealize.SL.Sem

variable (m : (ℓ : Loc nD τ sig) → Buf (Elt Ideal) ℓ)

/-- The tokens a device holds at launch. -/
abbrev tokens (c : Dev nD) : FVec Ideal (Routing.shape2 32768 2048) .f32 := m ((c.tc : Thread nD τ).loc main_arg0)

/-- The prompt lengths a device holds at launch. -/
abbrev lengths (c : Dev nD) : IVec (Routing.shape1 16) 32 := m ((c.tc : Thread nD τ).loc main_arg1)

/-- Grid point `t` has the coordinate `t`. -/
theorem coord_point (t : Fin cfg0.N) : (grid0.coords t 0).val = t.val := by
  have h : t.val < 16 := lt_of_lt_of_eq t.isLt N_0
  rw [Pipeline.Grid.coords_val t 0 (by decide : grid0.stride 0 = 1) rfl, Nat.div_one]
  exact Nat.mod_eq_of_lt h

/-- The block of tokens a grid point reads starts at its own block of rows and the first feature. -/
theorem block_index : ∀ t : Fin grid0.N, win0_2.index t 0 = t.val ∧ win0_2.index t 1 = 0 := by
  decide +kernel

/-- The rows of lengths are read whole. -/
theorem row_index : ∀ t : Fin grid0.N, win0_0.index t 0 = 0 ∧ win0_0.index t 1 = 0 := by
  decide +kernel

/-- The column of lengths is read whole. -/
theorem col_index : ∀ t : Fin grid0.N, win0_1.index t 0 = 0 ∧ win0_1.index t 1 = 0 := by
  decide +kernel

/-- Row `r` of the block at grid point `t` is token `2048 t + r`. -/
theorem read_block (c : Dev nD) (t : Fin cfg0.N) (r d : Fin 2048) (h : 2048 * t.val + r.val < 32768) :
    (iblk m c 2 t : Vec Ideal S2048x2048 .f32) (ix2 r d) = tokens m c (ix2 ⟨2048 * t.val + r.val, h⟩ d) := by
  unfold iblk
  show (View.read _ ((View.whole main_arg0).slice (win0_2.rect t)) (V m c main_arg0)) _ = _
  rw [V_main_arg0, View.read_apply]
  refine congrArg (tokens m c) (funext fun a => Fin.ext ?_)
  match a with
  | ⟨0, _⟩ =>
    refine (Pipeline.Window.rect_emb_val win0_2 t _ 0).trans ?_
    rw [(block_index t).1]
    show t.val * 2048 + r.val = 2048 * t.val + r.val
    omega
  | ⟨1, _⟩ =>
    refine (Pipeline.Window.rect_emb_val win0_2 t _ 1).trans ?_
    rw [(block_index t).2]
    show 0 * 2048 + d.val = d.val
    omega

/-- Entry `k` of the row is the length of prompt `k` as a float. -/
theorem read_row (c : Dev nD) (t : Fin cfg0.N) (k : Fin 16) :
    @Eq EReal ((iblk m c 0 t : Vec Ideal S1x16 .f32) (ix2 0 k)) ((lengths m c (ix1 k)).toInt : ℝ) := by
  have e : @Eq EReal ((V m c main_v1 : Vec Ideal S1x16 .f32) (ix2 0 k)) ((lengths m c (ix1 k)).toInt : ℝ) := by
    unfold V hostOps0
    after_results_simp
    pointwise
    rfl
  refine Eq.trans ?_ e
  unfold iblk
  show (View.read _ ((View.whole main_v1).slice (win0_0.rect t)) (V m c main_v1)) _ = _
  rw [View.read_apply]
  refine congrArg (V m c main_v1) (funext fun a => Fin.ext ?_)
  match a with
  | ⟨0, _⟩ =>
    refine (Pipeline.Window.rect_emb_val win0_0 t _ 0).trans ?_
    rw [(row_index t).1]
    rfl
  | ⟨1, _⟩ =>
    refine (Pipeline.Window.rect_emb_val win0_0 t _ 1).trans ?_
    rw [(row_index t).2]
    show 0 * 16 + k.val = k.val
    omega

/-- Entry `b` of the column is the length of prompt `b` as a float. -/
theorem read_col (c : Dev nD) (t : Fin cfg0.N) (b : Fin 16) :
    @Eq EReal ((iblk m c 1 t : Vec Ideal S16x1 .f32) (ix2 b 0)) ((lengths m c (ix1 b)).toInt : ℝ) := by
  have e : @Eq EReal ((V m c main_v3 : Vec Ideal S16x1 .f32) (ix2 b 0)) ((lengths m c (ix1 b)).toInt : ℝ) := by
    unfold V hostOps0
    after_results_simp
    pointwise
    rfl
  refine Eq.trans ?_ e
  unfold iblk
  show (View.read _ ((View.whole main_v3).slice (win0_1.rect t)) (V m c main_v3)) _ = _
  rw [View.read_apply]
  refine congrArg (V m c main_v3) (funext fun a => Fin.ext ?_)
  match a with
  | ⟨0, _⟩ =>
    refine (Pipeline.Window.rect_emb_val win0_1 t _ 0).trans ?_
    rw [(col_index t).1]
    show 0 * 16 + b.val = b.val
    omega
  | ⟨1, _⟩ =>
    refine (Pipeline.Window.rect_emb_val win0_1 t _ 1).trans ?_
    rw [(col_index t).2]
    rfl

end Cert.Pooling

end
-- ==== Proof.KernelValue.lean ====
/- The kernel's result at exact arithmetic: each entry is the sum of its prompt's tokens, divided by the prompt's
   length and scaled so that the prompt's row has length one. -/
module

public import proofs.«01_k».proof.Proof.Windows

@[expose] public section

noncomputable section

namespace Cert.Pooling

open Cert.KernelIdeal Cert.KernelIdeal.Gen Idealize.ShloMosaic Idealize.ShloMosaic.TcCoe Idealize.SL.Sem

variable (m : (ℓ : Loc nD τ sig) → Buf (Elt Ideal) ℓ)

/-- After grid point `n` an entry of the accumulator is the sum of those of the prompt's tokens that lie among the
    first `2048 (n + 1)`. -/
theorem running_sum (c : Dev nD) (h : Ragged (tokens m c) (lengths m c)) (b : Fin 16) (d : Fin 2048) :
    ∀ (n : ℕ) (hn : n < cfg0.N), @Eq EReal (running m c n hn (ix2 b d))
      (∑ t ∈ Finset.range (2048 * (n + 1)),
          if start (lengths m c) b.val ≤ t ∧ t < start (lengths m c) (b.val + 1) then tok (tokens m c) d t else 0) := by
  have point : ∀ (n : ℕ) (hn : n < cfg0.N),
      @Eq EReal (k0_pay1 (grid0.coords ⟨n, hn⟩) (iblk m c 0 ⟨n, hn⟩) (iblk m c 2 ⟨n, hn⟩) (ix2 b d))
        (∑ r ∈ Finset.range 2048,
          if start (lengths m c) b.val ≤ 2048 * n + r ∧ 2048 * n + r < start (lengths m c) (b.val + 1)
          then tok (tokens m c) d (2048 * n + r) else 0) := by
    intro n hn
    have h16 : n < 16 := lt_of_lt_of_eq hn N_0
    refine (block_sum (lengths m c) _ _ (fun k => (read_row m c ⟨n, hn⟩ k).trans ?_) _ b d).trans ?_
    · rw [toInt_len h]
      simp
    · rw [coord_point ⟨n, hn⟩, ← Fin.sum_univ_eq_sum_range (fun r =>
        if start (lengths m c) b.val ≤ 2048 * n + r ∧ 2048 * n + r < start (lengths m c) (b.val + 1)
          then tok (tokens m c) d (2048 * n + r) else 0) 2048]
      refine Finset.sum_congr rfl fun r _ => ?_
      have hr : 2048 * n + r.val < 32768 := by have := r.isLt; omega
      rw [read_block m c ⟨n, hn⟩ r d hr]
      unfold tok
      rw [dif_pos hr]
  intro n
  induction n with
  | zero =>
    intro hn
    refine (point 0 hn).trans ?_
    simp only [Nat.mul_zero, Nat.zero_add, Nat.mul_one]
  | succ n ih =>
    intro hn
    have step : running m c (n + 1) hn (ix2 b d)
        = (running m c n (Nat.lt_of_succ_lt hn) (ix2 b d) : EReal)
          + k0_pay1 (grid0.coords ⟨n + 1, hn⟩) (iblk m c 0 ⟨n + 1, hn⟩) (iblk m c 2 ⟨n + 1, hn⟩) (ix2 b d) := by
      show k0_pay2 (grid0.coords ⟨n + 1, hn⟩) (iblk m c 0 ⟨n + 1, hn⟩) (iblk m c 2 ⟨n + 1, hn⟩) (running m c n _) (ix2 b d) = _
      pointwise [k0_pay2]
    rw [step, ih, point, Nat.mul_succ 2048 (n + 1), Finset.sum_range_add]

/-- The kernel's result, entry by entry. -/
theorem result_apply (c : Dev nD) (h : Ragged (tokens m c) (lengths m c)) (b : Fin 16) (d : Fin 2048) :
    @Eq EReal ((result m c : Vec Ideal S16x2048 .f32) (ix2 b d))
      (scaled (fun b d => ∑ t ∈ Finset.range 32768,
        if start (lengths m c) b.val ≤ t ∧ t < start (lengths m c) (b.val + 1) then tok (tokens m c) d t else 0) (lengths m c) b d) := by
  have tail : ∀ (acc : Vec Ideal S16x2048 .f32) (col : Vec Ideal S16x1 .f32), @Eq EReal (k0_pay3 acc col (ix2 b d))
      (Ideal.div (Ideal.div (acc (ix2 b d)) (col (ix2 b 0)))
        (max (Ideal.sqrt (∑ e : Fin 2048, Ideal.div (acc (ix2 b e)) (col (ix2 b 0)) * Ideal.div (acc (ix2 b e)) (col (ix2 b 0))))
          (Ideal.ofBits .f32 0x2B8CBCCC#32))) := by
    intro acc col
    pointwise [k0_pay3]
  unfold result scaled mean
  rw [tail]
  simp only [running_sum m c h, read_col]

end Cert.Pooling

end
-- ==== Proof.ReferenceValue.lean ====
/- The reference's result at exact arithmetic: each entry is a difference of two running sums down the tokens, plus the
   prompt's first token, divided by the prompt's length and scaled so that the prompt's row has length one. -/
module

public import proofs.«01_k».proof.Proof.Lengths
public import proofs.«01_k».proof.Proof.Gen.ReferenceIdeal.Run
public import Idealize.ShloMosaic.Lib.Pipeline.Value

@[expose] public section

noncomputable section

namespace Cert.Pooling.Reference

open Cert.ReferenceIdeal Cert.ReferenceIdeal.Gen Idealize.ShloMosaic Idealize.ShloMosaic.TcCoe Idealize.SL.Sem

/-- The words of the starts: a zero, then the running sums of the first fifteen lengths. -/
def startWords (lens : IVec S16 32) : IVec S16 32 :=
  concatenate S16 0 [⟨S1, (broadcastInDim S1 ![] bcast_S_S1 (constantI S_ 32 0#32))⟩,
    ⟨S15, (Host.reduceWindow IntOp.addi ![15] ![1] ![14] ![0] (extractStridedSlice S15 ![0] lens slices_S16_S15_0)
      (broadcastInDim S_ ![] bcast_S_S_ (constantI S_ 32 0#32)) reduceWindows_S15_S15_w15s1p14_0 h_S_)⟩] concatenates_S1_S15_S16_d0

/-- The words of the last tokens: the running sums of the lengths, less one. -/
def lastWords (lens : IVec S16 32) : IVec S16 32 :=
  subi (Host.reduceWindow IntOp.addi ![16] ![1] ![15] ![0] lens (broadcastInDim S_ ![] bcast_S_S_ (constantI S_ 32 0#32))
    reduceWindows_S16_S16_w16s1p15_0 h_S_) (broadcastInDim S16 ![] bcast_S_S16 (constantI S_ 32 1#32))

/-- A vector of positions as a column of gather indices, a negative one counted from the end. -/
def column (w : IVec S16 32) : IVec S16x1 32 :=
  broadcastInDim S16x1 ![0] bcast_S16_S16x1_0
    (select (cmpi .slt w (broadcastInDim S16 ![] bcast_S_S16 (constantI S_ 32 0#32)))
      (addi w (broadcastInDim S16 ![] bcast_S_S16 (constantI S_ 32 32768#32))) w)

/-- The running sums down the tokens. -/
def prefixes (x : FVec Ideal S32768x2048 .f32) : FVec Ideal S32768x2048 .f32 :=
  Host.reduceWindowAdd ![32768, 1] ![1, 1] ![32767, 0] ![0, 0] x (broadcastInDim S_ ![] bcast_S_S_ (constant S_ .f32 0x00000000#32))
    reduceWindows_S32768x2048_S32768x2048_w32768s1p32767_0_w1s1p0_0 h_S_

/-- The rows of an array that a vector of positions names. -/
def rows (x : FVec Ideal S32768x2048 .f32) (w : IVec S16 32) : FVec Ideal S16x2048 .f32 :=
  Host.gather gather_S32768x2048_S16x1_S16x2048_1_0_n_n_0_1_12048 x (column w)

/-- The prompts' sums: the running sum at the last token, less the one at the first, plus the first token. -/
def sums (x : FVec Ideal S32768x2048 .f32) (lens : IVec S16 32) : FVec Ideal S16x2048 .f32 :=
  addf (subf (rows (prefixes x) (lastWords lens)) (rows (prefixes x) (startWords lens))) (rows x (startWords lens))

/-- The prompts' means. -/
def means (s : FVec Ideal S16x2048 .f32) (lens : IVec S16 32) : FVec Ideal S16x2048 .f32 :=
  Host.divf s (broadcastInDim S16x2048 ![0, 1] bcast_S16x1_S16x2048_0_1 (sitofp .f32 (broadcastInDim S16x1 ![0] bcast_S16_S16x1_0 lens)))

/-- Rows divided by their norms. -/
def unit (p : FVec Ideal S16x2048 .f32) : FVec Ideal S16x2048 .f32 :=
  Host.divf p (broadcastInDim S16x2048 ![0, 1] bcast_S16x1_S16x2048_0_1
    (maximumf (Host.sqrt (broadcastInDim S16x1 ![0] bcast_S16_S16x1_0
        (Host.reduceAdd (mulf p p) (constant S_ .f32 0x00000000#32) reducesTo_S16x2048_S16_d1 h_S_)))
      (broadcastInDim S16x1 ![] bcast_S_S16x1 (constant S_ .f32 0x2B8CBCCC#32))))

set_option maxRecDepth 8192 in
/-- The reference's result is built of these parts. -/
theorem result_parts (m : (ℓ : Loc nD τ sig) → Buf (Elt Ideal) ℓ) (c : Dev nD) :
    Value.res_main_v39 m c = unit (means (sums (m ((c.tc : Thread nD τ).loc main_arg0)) (m ((c.tc : Thread nD τ).loc main_arg1)))
      (m ((c.tc : Thread nD τ).loc main_arg1))) := rfl

/-- The rows divided by their norms, of the means, entry by entry. -/
theorem unit_means (s : FVec Ideal S16x2048 .f32) (lens : IVec S16 32) (b : Fin 16) (d : Fin 2048) :
    unit (means s lens) (ix2 b d) = scaled (fun b d => s (ix2 b d)) lens b d := by
  have hm : ∀ d, means s lens (ix2 b d) = mean (fun b d => s (ix2 b d)) lens b d := fun d => by
    unfold means mean
    pointwise
    rfl
  have hu : ∀ p : FVec Ideal S16x2048 .f32, unit p (ix2 b d)
      = Ideal.div (p (ix2 b d)) (max (Ideal.sqrt (∑ e : Fin 2048, (p (ix2 b e) : EReal) * p (ix2 b e))) (Ideal.ofBits .f32 0x2B8CBCCC#32)) := fun p => by
    unfold unit
    pointwise
  rw [hu]
  unfold scaled
  simp only [hm]

/-- A gather index that is a small non-negative number stays as it is. -/
theorem column_apply (w : IVec S16 32) (b : Fin 16) (p : Nat) (hp : p < 32768) (hw : w (ix1 b) = BitVec.ofNat 32 p) :
    column w (ix2 b 0) = BitVec.ofNat 32 p := by
  have no : ¬ IntOp.cmpi .slt (w (ix1 b)) 0#32 = 1#1 := by
    rw [hw, StableHlo.Predicate.slt_iff_toNat (by rw [BitVec.toNat_ofNat]; omega) (by decide)]
    simp
  unfold column
  pointwise
  exact (if_neg no).trans hw

/-- The gather reads the rows at the positions. -/
theorem rows_apply (x : FVec Ideal S32768x2048 .f32) (w : IVec S16 32) (b : Fin 16) (d : Fin 2048) (p : Nat) (hp : p < 32768)
    (hw : w (ix1 b) = BitVec.ofNat 32 p) : rows x w (ix2 b d) = x (ix2 ⟨p, hp⟩ d) := by
  unfold rows
  simp only [ix2_eq_valueIdx]
  exact Routing.gather_row _ rfl rfl rfl rfl rfl x _ b d ⟨p, hp⟩
    (by rw [← ix2_eq_valueIdx]; exact column_apply w b p hp hw) (by decide)

/-- Row `p` of the running sums. -/
theorem prefixes_apply (x : FVec Ideal S32768x2048 .f32) (p : Fin 32768) (d : Fin 2048) :
    prefixes x (ix2 p d) = ∑ i ∈ Finset.range (p.val + 1), tok x d i := by
  unfold prefixes
  refine running_sums (top := 32767) rfl x _ ?_ _ _ p d (tok x d) fun i => ?_
  · pointwise
  · unfold tok
    rw [dif_pos i.isLt]

/-- The running sum of the lengths up to a prompt is the prompt's stop: less one, the last token of a prompt that has
    a token. -/
theorem lastWords_apply (lens : IVec S16 32) (b : Fin 16) (h : 1 ≤ len lens b.val) :
    lastWords lens (ix1 b) = BitVec.ofNat 32 (start lens (b.val + 1) - 1) := by
  have e : Host.reduceWindow IntOp.addi ![16] ![1] ![15] ![0] lens (broadcastInDim S_ ![] bcast_S_S_ (constantI S_ 32 0#32))
      reduceWindows_S16_S16_w16s1p15_0 h_S_ (ix1 b) = BitVec.ofNat 32 (start lens (b.val + 1)) := by
    rw [ix1_eq_valueIdx, Routing.cumsum1 rfl lens (len lens) (fun i => by rw [← ix1_eq_valueIdx]; exact word_len lens i) _ (by
      rw [← ix0_eq_valueIdx]; pointwise), list_range_sum]
    rfl
  have pos : 1 ≤ start lens (b.val + 1) := by
    rw [start_succ]
    omega
  show Host.reduceWindow IntOp.addi ![16] ![1] ![15] ![0] lens _ _ _ (ix1 b) - 1#32 = _
  rw [e]
  obtain ⟨k, hk⟩ : ∃ k, start lens (b.val + 1) = k + 1 := ⟨_, (Nat.sub_add_cancel pos).symm⟩
  rw [hk, BitVec.ofNat_add, Nat.add_sub_cancel]
  exact BitVec.add_sub_cancel _ _

/-- The words of the starts hold the starts. -/
theorem startWords_apply (lens : IVec S16 32) (b : Fin 16) : startWords lens (ix1 b) = BitVec.ofNat 32 (start lens b.val) := by
  unfold startWords
  by_cases hb : b.val = 0
  · rw [concatenate_pair_apply_left (s₁ := S1) (s₂ := S15) 0 _ _ _ (ix1 b) rfl (ix1 0) fun a => by
      match a with
      | ⟨0, _⟩ => exact hb.symm, hb]
    rfl
  · have hb' := b.isLt
    rw [concatenate_pair_apply_right (s₁ := S1) (s₂ := S15) 0 _ _ _ (ix1 b) rfl rfl (ix1 ⟨b.val - 1, by omega⟩) (fun a ha => by
        match a with
        | ⟨0, _⟩ => exact absurd rfl ha) (by
        show b.val - 1 + 1 = b.val
        omega),
      ix1_eq_valueIdx, Routing.cumsum1 (N := 15) (Nm1 := 14) rfl _ (len lens) (fun i => by
        rw [Routing.slice1 0 lens _ i (by have := i.isLt; omega), ← ix1_eq_valueIdx]
        exact (word_len lens _).trans (congrArg (fun n => BitVec.ofNat 32 (len lens n)) (Nat.zero_add _))) _ (by rw [← ix0_eq_valueIdx]; pointwise), list_range_sum]
    show BitVec.ofNat 32 (∑ i ∈ Finset.range (b.val - 1 + 1), len lens i) = _
    rw [Nat.sub_add_cancel (by omega)]
    rfl

/-- The sums of a prompt that has a token, entry by entry. -/
theorem sums_apply (x : FVec Ideal S32768x2048 .f32) (lens : IVec S16 32) (h : Ragged x lens) (b : Fin 16)
    (h₄ : 1 ≤ len lens b.val) (d : Fin 2048) :
    @Eq EReal (sums x lens (ix2 b d))
      (((∑ t ∈ Finset.range (start lens (b.val + 1) - 1 + 1), tok x d t) - ∑ t ∈ Finset.range (start lens b.val + 1), tok x d t)
        + tok x d (start lens b.val)) := by
  have hb := b.isLt
  have h₁ := start_mono lens (show b.val + 1 ≤ 16 by omega)
  have h₂ := start_succ lens b.val
  have h₃ := h.total
  have hs : start lens b.val < 32768 := by omega
  have he : start lens (b.val + 1) - 1 < 32768 := by omega
  show (rows (prefixes x) (lastWords lens) (ix2 b d) - rows (prefixes x) (startWords lens) (ix2 b d) : EReal)
    + rows x (startWords lens) (ix2 b d) = _
  rw [rows_apply _ _ b d _ he (lastWords_apply lens b h₄), rows_apply _ _ b d _ hs (startWords_apply lens b),
    rows_apply _ _ b d _ hs (startWords_apply lens b), prefixes_apply, prefixes_apply]
  unfold tok
  rw [dif_pos hs]

/-- The sums of a prompt that has a token are the sums of the tokens between start and stop: the running sums are real, so their
    difference leaves exactly those tokens. -/
theorem sums_stretch (x : FVec Ideal S32768x2048 .f32) (lens : IVec S16 32) (h : Ragged x lens) (b : Fin 16)
    (h₄ : 1 ≤ len lens b.val) (d : Fin 2048) :
    @Eq EReal (sums x lens (ix2 b d)) (∑ t ∈ Finset.range 32768,
      if start lens b.val ≤ t ∧ t < start lens (b.val + 1) then tok x d t else 0) := by
  have real : ∀ n, ∃ r : ℝ, tok x d n = (r : EReal) := fun n => by
    unfold tok
    split
    · exact h.real _
    · exact ⟨0, rfl⟩
  choose f hf using real
  have hb := b.isLt
  have h₁ := start_mono lens (show b.val + 1 ≤ 16 by omega)
  have h₂ := start_succ lens b.val
  have h₃ := h.total
  rw [sums_apply x lens h b h₄ d]
  simp only [hf]
  exact (stretch_sum f _ _ 32768 (by omega) (by omega)).symm

end Cert.Pooling.Reference

end
-- ==== Proof.Equation.lean ====
/- The equation: where the precondition holds and the arguments agree, the kernel's result is the reference's. -/
module

public import proofs.«01_k».proof.Proof.KernelValue
public import proofs.«01_k».proof.Proof.ReferenceValue

@[expose] public section

noncomputable section

namespace Cert.Pooling

open Idealize.ShloMosaic Idealize.ShloMosaic.TcCoe Idealize.SL.Sem

/-- From memories with the same tokens and lengths, the lengths adding up to no more than the number of tokens
    and the tokens real, the two programs compute the same sixteen rows. -/
theorem equation (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : Ragged (tokens m c) (lengths m c))
    (h₀ : m' ((c.tc : Thread ReferenceIdeal.nD ReferenceIdeal.τ).loc ReferenceIdeal.main_arg0) = tokens m c)
    (h₁ : m' ((c.tc : Thread ReferenceIdeal.nD ReferenceIdeal.τ).loc ReferenceIdeal.main_arg1) = lengths m c) :
    (ReferenceIdeal.Value.res_main_v39 m' c : Vec Ideal ReferenceIdeal.S16x2048 .f32) = result m c := by
  funext i
  obtain ⟨b, d, rfl⟩ : ∃ (b : Fin 16) (d : Fin 2048), i = ix2 b d := ⟨i 0, i 1, eq_ix2 i⟩
  refine Eq.trans ?_ (result_apply m c h b d).symm
  rw [Reference.result_parts, h₀, h₁, Reference.unit_means]
  by_cases empty : len (lengths m c) b.val = 0
  · have zero : (lengths m c (ix1 b)).toInt = 0 := by rw [toInt_len h, empty]; rfl
    exact (scaled_of_empty _ _ b zero d).trans (scaled_of_empty _ _ b zero d).symm
  · have nonempty : 1 ≤ len (lengths m c) b.val := Nat.one_le_iff_ne_zero.2 empty
    refine scaled_congr (fun b d => Reference.sums (tokens m c) (lengths m c) (ix2 b d)) _ (lengths m c) b ?_ d
    intro e
    exact Reference.sums_stretch (tokens m c) (lengths m c) h b nonempty e

end Cert.Pooling

end
-- ==== Proof.lean ====
/- The claims, assembled: both programs run, end and leave their arguments as they were; the kernel read at exact
   arithmetic is the kernel's own text; and where the precondition holds its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_ragged
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments as they were and, having no semaphores, ends with none raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run m g)

/-- Where the precondition holds and the arguments agree, both programs end with the same result. -/
theorem values_agree : Cert.algebraic_KernelIdeal_ReferenceIdeal_pre_ragged (hKernelIdeal := Cert.KernelIdeal.Gen.facts)
    (hReferenceIdeal := Cert.ReferenceIdeal.Gen.facts) (hPre_ragged := Cert.Pre_ragged.Gen.facts) := by
  intro m g m' g' hpre hargs
  refine ⟨Cert.Pooling.result m, ?_, ?_⟩
  · exact (θ_run Cert.KernelIdeal.defs _ _).mono
      (fun r h c => ⟨(h c).1.trans (Cert.Pooling.array_result m c), (h c).2⟩) (Cert.KernelIdeal.Value.run_blocks m g)
  · refine (θ_run Cert.ReferenceIdeal.defs _ _).mono (fun r h c => ⟨(h c).1.trans ?_, (h c).2⟩) (Cert.ReferenceIdeal.Value.run m' g')
    exact Cert.Pooling.equation m m' c (Cert.Pooling.ragged_of_pre _ _ (hpre c)) (hargs c).1 (hargs c).2

/-- Every claim holds. -/
theorem claim : Cert.Claim :=
  ⟨Cert.Kernel.Gen.facts, Cert.KernelIdeal.Gen.facts, Cert.ReferenceIdeal.Gen.facts, Cert.Pre_ragged.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, values_agree⟩

end Cert.Proof

end
